-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16x96x96x96 : Shape := ⟨4, ![16, 96, 96, 96]⟩
abbrev S16x48x2x9216 : Shape := ⟨4, ![16, 48, 2, 9216]⟩
abbrev S16x1x2x9216 : Shape := ⟨4, ![16, 1, 2, 9216]⟩

abbrev nBuf : Space → Nat
  | .hbm => 4
  | .vmem => 4
  | .smem => 0
  | _ => 0

abbrev bufTy : (tb : Table) → Fin (tcTables nBuf tb) → BufTy
  | .hbm, ⟨0, _⟩ => ⟨S16x96x96x96, .f32⟩
  | .hbm, ⟨1, _⟩ => ⟨S16x48x2x9216, .f32⟩
  | .hbm, ⟨2, _⟩ => ⟨S16x48x2x9216, .f32⟩
  | .hbm, ⟨3, _⟩ => ⟨S16x96x96x96, .f32⟩
  | .local _ .vmem, ⟨0, _⟩ => ⟨S16x1x2x9216, .f32⟩
  | .local _ .vmem, ⟨1, _⟩ => ⟨S16x1x2x9216, .f32⟩
  | .local _ .vmem, ⟨2, _⟩ => ⟨S16x1x2x9216, .f32⟩
  | .local _ .vmem, ⟨3, _⟩ => ⟨S16x1x2x9216, .f32⟩
  | _, _ => ⟨S16x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 4 → Nat :=
  let arg0 : BitVec 32 := BitVec.ofNat 32 (i 0).val
  let c35_i32 : BitVec 32 := 35#32
  let v0 : BitVec 32 := Scalar.muli c35_i32 arg0
  let c48_i32 : BitVec 32 := 48#32
  let c0_i32 : BitVec 32 := 0#32
  let v1 : BitVec 1 := Scalar.cmpi .eq c48_i32 c0_i32
  let c1_i32 : BitVec 32 := 1#32
  let v2 : BitVec 32 := Scalar.select v1 c1_i32 c48_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  let c0_i32_6 : BitVec 32 := 0#32
  ![c0_i32_3.toNat, v10.toNat, c0_i32_4.toNat, c0_i32_5.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x1x2x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x2x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16x96x96x96 : Shape := ⟨4, ![16, 96, 96, 96]⟩
abbrev S96 : Shape := ⟨1, ![96]⟩
abbrev S_ : Shape := ⟨0, ![]⟩
abbrev S96x1 : Shape := ⟨2, ![96, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x96x96x96, .f32⟩
  | .hbm, ⟨1, _⟩ => ⟨S96, .i32⟩
  | .hbm, ⟨2, _⟩ => ⟨S_, .i32⟩
  | .hbm, ⟨3, _⟩ => ⟨S96, .i32⟩
  | .hbm, ⟨4, _⟩ => ⟨S96, .i1⟩
  | .hbm, ⟨5, _⟩ => ⟨S_, .i32⟩
  | .hbm, ⟨6, _⟩ => ⟨S96, .i32⟩
  | .hbm, ⟨7, _⟩ => ⟨S96, .i32⟩
  | .hbm, ⟨8, _⟩ => ⟨S96, .i32⟩
  | .hbm, ⟨9, _⟩ => ⟨S96x1, .i32⟩
  | .hbm, ⟨10, _⟩ => ⟨S1, .i32⟩
  | .hbm, ⟨11, _⟩ => ⟨S_, .i32⟩
  | .hbm, ⟨12, _⟩ => ⟨S96x1, .i32⟩
  | .hbm, ⟨13, _⟩ => ⟨S96x1, .i1⟩
  | .hbm, ⟨14, _⟩ => ⟨S1x1, .i32⟩
  | .hbm, ⟨15, _⟩ => ⟨S96x1, .i32⟩
  | .hbm, ⟨16, _⟩ => ⟨S96x1, .i1⟩
  | .hbm, ⟨17, _⟩ => ⟨S96x1, .i1⟩
  | .hbm, ⟨18, _⟩ => ⟨S_, .i1⟩
  | .hbm, ⟨19, _⟩ => ⟨S96, .i1⟩
  | .hbm, ⟨20, _⟩ => ⟨S16x96x96x96, .f32⟩
  | .hbm, ⟨21, _⟩ => ⟨S16x96x96x96, .i1⟩
  | .hbm, ⟨22, _⟩ => ⟨S_, .f32⟩
  | .hbm, ⟨23, _⟩ => ⟨S16x96x96x96, .f32⟩
  | .hbm, ⟨24, _⟩ => ⟨S16x96x96x96, .f32⟩
  | _, _ => ⟨S16x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Perm.lean ====
/-
  The permutation of the channels, as mathematics on arrays, and what the reference's host operations compute.

  A batch of 16 images of 96 channels of 96 × 96 numbers. The channels come in 48 pairs; pair `p` of the result is
  pair `35 p mod 48` of the input. So channel `c` of the result is channel `2 (35 (c / 2) mod 48) + c mod 2` of the
  input (`src`), and the result as a whole is `permuted x`.

  `take_eq` reads the gather that `jnp.take` becomes — the wrap of negative indices, the gather, and the mask that
  puts NaN where an index is out of range — as `permuted x`, for any table of 96 words that holds `src`.
-/
module

public import Idealize.ShloMosaic.Lib.Pipeline.Value
public import Idealize.ShloMosaic.Lib.StableHlo.Predicate
public import Idealize.ShloMosaic.Lib.ValueIdxCore
public import Idealize.ShloMosaic.PureOps

@[expose] public section

noncomputable section

namespace Cert.Perm

open Idealize.ShloMosaic Idealize.ShloMosaic.ValueIdx

/-- The images: batch, channel, row, column. -/
abbrev Img : Shape := ⟨4, ![16, 96, 96, 96]⟩
/-- The same numbers by batch, pair of channels, channel of the pair, and position in the image. -/
abbrev Prs : Shape := ⟨4, ![16, 48, 2, 9216]⟩
/-- One word per channel. -/
abbrev Chs : Shape := ⟨1, ![96]⟩
/-- The same as a column. -/
abbrev Col : Shape := ⟨2, ![96, 1]⟩
/-- A single number. -/
abbrev Sc : Shape := ⟨0, ![]⟩
/-- A single number along one axis. -/
abbrev Sc1 : Shape := ⟨1, ![1]⟩
/-- A single number along two axes. -/
abbrev Sc11 : Shape := ⟨2, ![1, 1]⟩

/-- The pair of the input that pair `p` of the result is. -/
def srcPair (p : Fin 48) : Fin 48 := ⟨35 * p.val % 48, Nat.mod_lt _ (by decide)⟩

/-- The channel of the input that channel `c` of the result is. -/
def src (c : Fin 96) : Fin 96 := ⟨2 * (35 * (c.val / 2) % 48) + c.val % 2, by omega⟩

/-- The images with their channels permuted by pairs. -/
def permuted {α : Type} (x : Img.Idx → α) : Img.Idx → α := fun i => x (ix4 (i 0) (src (i 1)) (i 2) (i 3))

/-- The pairs permuted, for the images laid out by pairs. -/
def swapped {α : Type} (y : Prs.Idx → α) : Prs.Idx → α := fun j => y (ix4 (j 0) (srcPair (j 1)) (j 2) (j 3))

/-- To lay the images out by pairs, permute the pairs, and lay the result out by channels again is to permute the
    channels. -/
theorem reshape_swapped {α : Type} (x : Img.Idx → α) (h : Img.ShapeCasts Prs) (h' : Prs.ShapeCasts Img) :
    shapeCast Img (swapped (shapeCast Prs x h)) h' = permuted x := by
  funext i
  have h1 : (i 1).val < 96 := (i 1).isLt
  have h2 : (i 2).val < 96 := (i 2).isLt
  have h3 : (i 3).val < 96 := (i 3).isLt
  rw [shapeCast_apply (t := Img) (s := Prs) _ h' i
    (ix4 (i 0) ⟨(i 1).val / 2, by omega⟩ ⟨(i 1).val % 2, by omega⟩ ⟨(i 2).val * 96 + (i 3).val, by omega⟩)
    (by
      rw [Shape.rowMajor_val_four, Shape.rowMajor_val_four]
      show (((i 0).val * 48 + (i 1).val / 2) * 2 + (i 1).val % 2) * 9216 + ((i 2).val * 96 + (i 3).val)
        = (((i 0).val * 96 + (i 1).val) * 96 + (i 2).val) * 96 + (i 3).val
      omega)]
  unfold swapped
  refine shapeCast_apply (s := Img) (t := Prs) x h _ _ ?_
  rw [Shape.rowMajor_val_four, Shape.rowMajor_val_four]
  show (((i 0).val * 96 + (2 * (35 * ((i 1).val / 2) % 48) + (i 1).val % 2)) * 96 + (i 2).val) * 96 + (i 3).val
    = (((i 0).val * 48 + 35 * ((i 1).val / 2) % 48) * 2 + (i 1).val % 2) * 9216 + ((i 2).val * 96 + (i 3).val)
  omega

/-! ## The reference's gather -/

/-- The gather's dimension numbers: whole images along axes 0, 2 and 3, one channel each, chosen by the index. -/
def takeDims (wf : GatherDims.WF Img Col Img [0, 2, 3] [1] [] [1] [] 1 ![16, 1, 96, 96]) : GatherDims Img Col Img where
  offsetDims := [0, 2, 3]
  collapsedSliceDims := [1]
  operandBatchingDims := []
  startIndicesBatchingDims := []
  startIndexMap := [1]
  indexVectorDim := 1
  sliceSizes := ![16, 1, 96, 96]
  wf := wf

/-- The gather at an index: the channel is the one its index names, if that is a channel. -/
theorem gather_apply {α : Type} (wf : GatherDims.WF Img Col Img [0, 2, 3] [1] [] [1] [] 1 ![16, 1, 96, 96])
    (x : Img.Idx → α) (idx : IVec Col 32) (i : Img.Idx) (b : Fin 96)
    (hb : idx (ix2 (i 1) (0 : Fin 1)) = BitVec.ofNat 32 b.val) :
    Host.gather (takeDims wf) x idx i = x (ix4 (i 0) b (i 2) (i 3)) := by
  unfold Host.gather
  refine congrArg x (funext fun a => Fin.ext ?_)
  have hnb : ∀ a, (takeDims wf).batchCoord i a = 0 := fun a => GatherDims.batchCoord_eq_zero _ _ _ List.not_mem_nil
  show (takeDims wf).start i idx a + (takeDims wf).batchCoord i a + (takeDims wf).offCoord i a = _
  rw [hnb, Nat.add_zero]
  match a with
  | ⟨0, _⟩ => exact Nat.zero_add _
  | ⟨2, _⟩ => exact Nat.zero_add _
  | ⟨3, _⟩ => exact Nat.zero_add _
  | ⟨1, _⟩ =>
    have hm : (1 : Fin 4) ∈ (takeDims wf).startIndexMap := List.mem_singleton.mpr rfl
    have hsi : (takeDims wf).siIdx i ⟨(takeDims wf).startIndexMap.idxOf (1 : Fin 4), List.idxOf_lt_length_iff.2 hm⟩
        = ix2 (i 1) (0 : Fin 1) := by
      funext k
      match k with
      | ⟨0, _⟩ => rfl
      | ⟨1, _⟩ => rfl
    rw [GatherDims.offCoord_eq_zero _ _ _ (fun h => ((GatherDims.mem_sKept _ _).mp h).1 (List.mem_singleton.mpr rfl)),
      Nat.add_zero]
    unfold GatherDims.start
    refine (dif_pos hm).trans ?_
    refine (congrArg (fun k => min (idx k).toInt.toNat 95) hsi).trans ?_
    show min (idx (ix2 (i 1) (0 : Fin 1))).toInt.toNat 95 = b.val
    rw [hb]
    have : ∀ b < 96, min (BitVec.ofNat 32 b).toInt.toNat 95 = b := by decide
    exact this _ b.isLt

/-- A conjunction over an axis of bits that are all set is set. -/
theorem reduce_and_ones {axes : List (Fin Col.rank)} (h : Col.ReducesTo axes Chs) (hu : 0 < Sc.numel) :
    Host.reduce IntOp.andi (fun _ : Col.Idx => 1#1) (fun _ : Sc.Idx => 1#1) h hu = fun _ => 1#1 := by
  funext j
  unfold Host.reduce
  generalize (List.finRange Col.numel).filter _ = l
  induction l with
  | nil => rfl
  | cons n l ih =>
    rw [List.foldl_cons, show IntOp.andi 1#1 1#1 = 1#1 by decide]
    exact ih

/-- A vector as a column, read at an index. -/
theorem column_apply {α : Type} (h : Chs.BroadcastsInDim Col ![0]) (y : Chs.Idx → α) (j : Col.Idx) :
    broadcastInDim Col ![0] h y j = y (ix1 (j 0)) := by
  refine congrArg y (funext fun a => ?_)
  obtain rfl : a = 0 := Subsingleton.elim _ _
  exact dif_neg (show ¬(96 = 1) by decide)

/-- What `jnp.take` along the channels computes, for a table `T` that names channel `src c` at `c`: the images with
    their channels permuted. No index is negative, so none is wrapped; all are in range, so the mask keeps every
    number and `fill` is not read. -/
theorem take_eq {α : Type} (T : Fin 96 → BitVec 32) (hT : ∀ c, T c = BitVec.ofNat 32 (src c).val)
    (h0 : Sc.BroadcastsInDim Chs ![]) (h1 : Chs.BroadcastsInDim Col ![0]) (h2 : Sc.BroadcastsInDim Col ![])
    (h3 : Sc1.BroadcastsInDim Sc11 ![1]) (h4 : Sc11.BroadcastsInDim Col ![0, 1]) (h5 : Col.ReducesTo [1] Chs)
    (h6 : 0 < Sc.numel) (h7 : Chs.BroadcastsInDim Img ![1])
    (wf : GatherDims.WF Img Col Img [0, 2, 3] [1] [] [1] [] 1 ![16, 1, 96, 96])
    (x fill : Img.Idx → α) (idx : IVec Col 32)
    (hidx : idx = broadcastInDim Col ![0] h1
      (select (cmpi .slt (fun i => T (Chs.rowMajor i)) (broadcastInDim Chs ![] h0 (constantI Sc 32 0#32)))
        (addi (fun i => T (Chs.rowMajor i)) (broadcastInDim Chs ![] h0 (constantI Sc 32 96#32)))
        (fun i => T (Chs.rowMajor i)))) :
    select (broadcastInDim Img ![1] h7 (Host.reduce IntOp.andi
        (andi (cmpi .sge idx (broadcastInDim Col ![] h2 (constantI Sc 32 0#32)))
          (cmpi .sle idx (broadcastInDim Col ![0, 1] h4 (broadcastInDim Sc11 ![1] h3 (constantI Sc1 32 95#32)))))
        (constantI Sc 1 1#1) h5 h6))
      (Host.gather (takeDims wf) x idx) fill = permuted x := by
  have hword : ∀ c : Fin 96, Scalar.select (IntOp.cmpi .slt (BitVec.ofNat 32 c.val) 0#32)
      (IntOp.addi (BitVec.ofNat 32 c.val) 96#32) (BitVec.ofNat 32 c.val) = BitVec.ofNat 32 c.val := by decide
  have hrm : ∀ c : Fin 96, Chs.rowMajor (ix1 c) = c := fun c => Fin.ext (by rw [Shape.rowMajor_val_one])
  have key : ∀ c : Fin 96, Scalar.select (IntOp.cmpi .slt (T (Chs.rowMajor (ix1 c))) 0#32)
      (IntOp.addi (T (Chs.rowMajor (ix1 c))) 96#32) (T (Chs.rowMajor (ix1 c))) = BitVec.ofNat 32 (src c).val := fun c => by
    rw [hrm, hT]; exact hword _
  have hix : ∀ j : Col.Idx, idx j = BitVec.ofNat 32 (src (j 0)).val := fun j => by
    rw [hidx]
    exact (column_apply h1 _ j).trans (key (j 0))
  have hmask : andi (cmpi .sge idx (broadcastInDim Col ![] h2 (constantI Sc 32 0#32)))
      (cmpi .sle idx (broadcastInDim Col ![0, 1] h4 (broadcastInDim Sc11 ![1] h3 (constantI Sc1 32 95#32))))
      = fun _ => 1#1 := by
    have hin : ∀ c : Fin 96, IntOp.andi (IntOp.cmpi .sge (BitVec.ofNat 32 c.val) 0#32)
        (IntOp.cmpi .sle (BitVec.ofNat 32 c.val) 95#32) = 1#1 := by decide
    funext j
    show IntOp.andi (IntOp.cmpi .sge (idx j) 0#32) (IntOp.cmpi .sle (idx j) 95#32) = 1#1
    rw [hix]
    exact hin _
  rw [hmask]
  have hred : Host.reduce IntOp.andi (fun _ : Col.Idx => 1#1) (constantI Sc 1 1#1) h5 h6 = fun _ => 1#1 :=
    reduce_and_ones h5 h6
  rw [hred]
  funext i
  show Host.gather (takeDims wf) x idx i = _
  exact gather_apply wf x idx i (src (i 1)) (hix _)

end Cert.Perm

end
-- ==== Proof.KernelValue.lean ====
/-
  What the kernel leaves in its result, at any float values: the images with their channels permuted by pairs.

  Before the region the images are laid out by pairs (`entry_eq`). Grid point `p` copies pair `35 p mod 48` of them
  to pair `p` of the region's result (`flushed_eq`, `cover`), so the region's result is the pairs permuted
  (`final_eq`). After the region that is laid out by channels again, which is the result (`tail_eq`, `run`).
-/
module

public import proofs.«01_k».proof.Proof.Perm
public import proofs.«01_k».proof.Proof.Gen.Kernel.Frame
public import Idealize.ShloMosaic.Lib.StableHlo.Run

@[expose] public section

noncomputable section

namespace Cert.Kernel.PermValue

open Cert.Kernel Cert.Kernel.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The region finds the images laid out by pairs. -/
theorem entry_eq (c : Dev nD) : V m c main_v0
    = shapeCast S16x48x2x9216 (m ((c : Thread nD τ).loc main_arg0)) shapeCasts_S16x96x96x96_S16x48x2x9216 := by
  show StableHlo.after (List.flatten [hostOps0]) (fun b => m (c, b)) (Proc.devRef .tc main_v0) = _
  simp only [hostOps0, List.flatten_cons, List.flatten_nil, List.append_nil]
  after_results <;> rfl

/-- Which blocks a grid point reads and writes: pair `35 t mod 48` and pair `t`, whole along the other axes. -/
theorem blocks (t : Fin cfg0.N) :
    win0_0.index t (0 : Fin 4) = 0 ∧ win0_0.index t (1 : Fin 4) = 35 * t.val % 48
      ∧ win0_0.index t (2 : Fin 4) = 0 ∧ win0_0.index t (3 : Fin 4) = 0
      ∧ win0_1.index t (0 : Fin 4) = 0 ∧ win0_1.index t (1 : Fin 4) = t.val
      ∧ win0_1.index t (2 : Fin 4) = 0 ∧ win0_1.index t (3 : Fin 4) = 0 :=
  (by decide +kernel : ∀ t : Fin grid0.N,
    win0_0.index t (0 : Fin 4) = 0 ∧ win0_0.index t (1 : Fin 4) = 35 * t.val % 48
      ∧ win0_0.index t (2 : Fin 4) = 0 ∧ win0_0.index t (3 : Fin 4) = 0
      ∧ win0_1.index t (0 : Fin 4) = 0 ∧ win0_1.index t (1 : Fin 4) = t.val
      ∧ win0_1.index t (2 : Fin 4) = 0 ∧ win0_1.index t (3 : Fin 4) = 0) t

/-- The region's result as a whole: the pairs that the region finds, permuted. -/
abbrev pairs (c : Dev nD) : Buf (Elt F) ((c : Thread nD τ).loc main_v1) := Perm.swapped (V m c main_v0)

/-- The four zeros that the body's accesses start at. -/
theorem zeros : (![0, 0, 0, 0] : Fin 4 → Nat) = fun _ => 0 := funext fun a => by fin_cases a <;> rfl

/-- What a point writes back is its block of the permuted pairs: the body copies its input block, and that block is
    the pair that the permutation names. -/
theorem flushed_eq (c : Dev nD) (t : Fin cfg0.N) :
    (dats m 0 c).flushed 1 t = (win0_1.blk t).view.read (Elt F) (pairs m c) := by
  show (cfg0.win 1).cut (grid0.coords t) ((dats m 0 c).after 1 t) = _
  rw [after0_1]
  unfold out0_1
  rw [View.canon_unit_zero zeros, View.ld_unit_zero zeros]
  unfold k0_pay1
  rw [shapeCast_self]
  obtain ⟨a0, a1, a2, a3, b0, b1, b2, b3⟩ := blocks t
  funext x
  show V m c main_v0 ((win0_0.rect t).emb x) = V m c main_v0 _
  congr 1
  funext a
  apply Fin.ext
  match a with
  | ⟨0, _⟩ => show win0_0.index t (0 : Fin 4) * 16 + 1 * (x 0).val = win0_1.index t (0 : Fin 4) * 16 + 1 * (x 0).val; omega
  | ⟨1, _⟩ =>
    have hx : (x 1).val < 1 := (x 1).isLt
    show win0_0.index t (1 : Fin 4) * 1 + 1 * (x 1).val = 35 * (win0_1.index t (1 : Fin 4) * 1 + 1 * (x 1).val) % 48
    rw [a1, b1]; omega
  | ⟨2, _⟩ => show win0_0.index t (2 : Fin 4) * 2 + 1 * (x 2).val = win0_1.index t (2 : Fin 4) * 2 + 1 * (x 2).val; omega
  | ⟨3, _⟩ => show win0_0.index t (3 : Fin 4) * 9216 + 1 * (x 3).val = win0_1.index t (3 : Fin 4) * 9216 + 1 * (x 3).val; omega

/-- Every index of the region's result is in the block that the point of its pair writes back. -/
theorem cover (i : S16x48x2x9216.Idx) :
    ∃ t : Fin cfg0.N, (cfg0.win 1).flush t = true ∧ i ∈ ((cfg0.win 1).blk t).view.set := by
  have h0 : (i 0).val < 16 := (i 0).isLt
  have h1 : (i 1).val < 48 := (i 1).isLt
  have h2 : (i 2).val < 2 := (i 2).isLt
  have h3 : (i 3).val < 9216 := (i 3).isLt
  have hN : cfg0.N = 48 := N_0
  let t : Fin cfg0.N := ⟨(i 1).val, by omega⟩
  obtain ⟨-, -, -, -, b0, b1, b2, b3⟩ := blocks t
  have ht : t.val = (i 1).val := rfl
  refine ⟨t, flush0_1 t, ?_⟩
  show i ∈ ((View.whole main_v1).slice (win0_1.rect t)).set
  rw [View.set_slice_whole, Rect.mem_set_unit]
  intro a
  match a with
  | ⟨0, _⟩ => show win0_1.index t (0 : Fin 4) * 16 ≤ (i 0).val ∧ (i 0).val < win0_1.index t (0 : Fin 4) * 16 + 16; omega
  | ⟨1, _⟩ => show win0_1.index t (1 : Fin 4) * 1 ≤ (i 1).val ∧ (i 1).val < win0_1.index t (1 : Fin 4) * 1 + 1; omega
  | ⟨2, _⟩ => show win0_1.index t (2 : Fin 4) * 2 ≤ (i 2).val ∧ (i 2).val < win0_1.index t (2 : Fin 4) * 2 + 2; omega
  | ⟨3, _⟩ => show win0_1.index t (3 : Fin 4) * 9216 ≤ (i 3).val ∧ (i 3).val < win0_1.index t (3 : Fin 4) * 9216 + 9216; omega

/-- After the region its result array holds the permuted pairs. -/
theorem final_eq (c : Dev nD) : (dats m 0 c).arrAt 1 cfg0.N = pairs m c :=
  (dats m 0 c).arrAt_eq_of_cover 1 (pairs m c) (fun t _ => flushed_eq m c t) cover

/-- The line after the region leaves, in the program's result, the images with their channels permuted. -/
theorem tail_eq (c : Dev nD) : Pipeline.afterTail₀ cfgs (dats m) 0 (V0 m) [hostOps1] c main_v2
    = Perm.permuted (m ((c : Thread nD τ).loc main_arg0)) := by
  have e : Pipeline.afterTail₀ cfgs (dats m) 0 (V0 m) [hostOps1] c main_v2
      = shapeCast S16x96x96x96 (Pipeline.withArrays spec0 c (V0 m c) (fun w => (dats m 0 c).arrAt w cfg0.N)
          (Proc.devRef .tc (Pipeline.arrRef spec0 1))) shapeCasts_S16x48x2x9216_S16x96x96x96 := by
    unfold Pipeline.afterTail₀
    after_results <;> rfl
  rw [e, Pipeline.withArrays_arr spec0 (by decide) c (V0 m c) _ 1, final_eq]
  show shapeCast Perm.Img (Perm.swapped (V m c main_v0)) _ = _
  rw [entry_eq]
  exact Perm.reshape_swapped _ _ _

/-- THE KERNEL'S RUN: every execution terminates, with the result holding the images with their channels permuted by
    pairs, and the argument unchanged. -/
theorem run : θ_run defs (onTc (τ := τ) (main (F := F))) ⟨m, fun _ => 0, ρ⟩ fun r => ∀ c : Dev nD,
      r.2.mem ((c : Thread nD τ).loc main_v2) = Perm.permuted (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_eq m c),
        ((h c).2 main_arg0 (Pipeline.mem_restRefs_of main_arg0 (by decide) (by decide))).trans (W_main_arg0 m (dats m) c)⟩)
    (run_main m ρ)

end Cert.Kernel.PermValue

end
-- ==== Proof.IdealValue.lean ====
/-
  The idealized kernel is the kernel's own text, so its run is the kernel's, read in its own names.
-/
module

public import proofs.«01_k».proof.Proof.KernelValue
public import proofs.«01_k».proof.Proof.Gen.KernelIdeal

@[expose] public section

noncomputable section

namespace Cert.KernelIdeal.PermValue

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The two programs' body tables agree: each has one label, and runs the same body there. -/
theorem defs_eq : Cert.Kernel.defs (F := F) = Cert.KernelIdeal.defs :=
  have body : Cert.Kernel.defs₀ (F := F) = Cert.KernelIdeal.defs₀ :=
    congrArg Defs.onTc (funext fun l => funext fun a => match l, a with
      | ⟨0, _⟩, (_, _) => rfl)
  congrArg (Pipeline.defs Cert.Kernel.pcfgs) body

/-- THE IDEALIZED KERNEL'S RUN: every execution terminates, with the result holding the images with their channels
    permuted by pairs, and the argument unchanged. -/
theorem run : θ_run defs (onTc (τ := τ) (main (F := F))) ⟨m, fun _ => 0, ρ⟩ fun r => ∀ c : Dev nD,
      r.2.mem ((c : Thread nD τ).loc main_v2) = Perm.permuted (m ((c : Thread nD τ).loc main_arg0))
      ∧ r.2.mem ((c : Thread nD τ).loc main_arg0) = m ((c : Thread nD τ).loc main_arg0) :=
  defs_eq (F := F) ▸ Cert.Kernel.PermValue.run m ρ

end Cert.KernelIdeal.PermValue

end
-- ==== Proof.ReferenceValue.lean ====
/-
  What the reference leaves in its result, at any float values: the images with their channels permuted by pairs.
  Its table holds the permutation (`lit0_eq`), and `Perm.take_eq` reads the lookup by that table.
-/
module

public import proofs.«01_k».proof.Proof.Perm
public import proofs.«01_k».proof.Proof.Gen.Reference.Run

@[expose] public section

noncomputable section

namespace Cert.Reference.PermValue

open Cert.Reference Cert.Reference.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The table names, at every channel, the channel that the permutation reads there. -/
theorem lit0_eq : ∀ c, lit0 c = BitVec.ofNat 32 (Perm.src c).val := by decide

/-- The run of the reference: every execution terminates, with the result holding the images with their
    channels permuted by pairs, and the argument unchanged. -/
theorem run : θ_run defs (onTc (τ := τ) (main (F := F))) ⟨m, fun _ => 0, ρ⟩ fun r => ∀ c : Dev nD,
      r.2.mem ((c : Thread nD τ).loc main_v0) = Perm.permuted (m ((c : Thread nD τ).loc main_arg0))
      ∧ r.2.mem ((c : Thread nD τ).loc main_arg0) = m ((c : Thread nD τ).loc main_arg0) :=
  (θ_run defs _ _).mono (fun _ h c =>
      ⟨(h c).1.trans (Perm.take_eq lit0 lit0_eq _ _ _ _ _ _ _ _
          gather_S16x96x96x96_S96x1_S16x96x96x96_023_1_n_n_1_1_1619696.wf _ _ _ rfl), (h c).2⟩)
    (Cert.Reference.Value.run m ρ)

end Cert.Reference.PermValue

end
-- ==== Proof.ReferenceIdealValue.lean ====
/-
  What the idealized reference leaves in its result, at any float values: the images with their channels permuted by pairs.
  Its table holds the permutation (`lit0_eq`), and `Perm.take_eq` reads the lookup by that table.
-/
module

public import proofs.«01_k».proof.Proof.Perm
public import proofs.«01_k».proof.Proof.Gen.ReferenceIdeal.Run

@[expose] public section

noncomputable section

namespace Cert.ReferenceIdeal.PermValue

open Cert.ReferenceIdeal Cert.ReferenceIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The table names, at every channel, the channel that the permutation reads there. -/
theorem lit0_eq : ∀ c, lit0 c = BitVec.ofNat 32 (Perm.src c).val := by decide

/-- The run of the idealized reference: every execution terminates, with the result holding the images with their
    channels permuted by pairs, and the argument unchanged. -/
theorem run : θ_run defs (onTc (τ := τ) (main (F := F))) ⟨m, fun _ => 0, ρ⟩ fun r => ∀ c : Dev nD,
      r.2.mem ((c : Thread nD τ).loc main_v0) = Perm.permuted (m ((c : Thread nD τ).loc main_arg0))
      ∧ r.2.mem ((c : Thread nD τ).loc main_arg0) = m ((c : Thread nD τ).loc main_arg0) :=
  (θ_run defs _ _).mono (fun _ h c =>
      ⟨(h c).1.trans (Perm.take_eq lit0 lit0_eq _ _ _ _ _ _ _ _
          gather_S16x96x96x96_S96x1_S16x96x96x96_023_1_n_n_1_1_1619696.wf _ _ _ rfl), (h c).2⟩)
    (Cert.ReferenceIdeal.Value.run m ρ)

end Cert.ReferenceIdeal.PermValue

end
-- ==== Proof.lean ====
/-
  The proof of every claim of `Cert.Claim`. Each program leaves the images with their channels permuted by pairs
  (`Perm.permuted`; the modules imported below), so the two value claims compare equal arrays, one over the extended
  reals and one bit by bit.
-/
module

public import proofs.«01_k».proof.Defs
public import proofs.«01_k».proof.Proof.Gen.Kernel.Frame
public import proofs.«01_k».proof.Proof.Gen.KernelIdeal.Frame
public import proofs.«01_k».proof.Proof.KernelValue
public import proofs.«01_k».proof.Proof.IdealValue
public import proofs.«01_k».proof.Proof.ReferenceValue
public import proofs.«01_k».proof.Proof.ReferenceIdealValue
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates with its argument unchanged and every semaphore at zero: it has none. -/
theorem reference_quiescent : Cert.quiescent_Reference := fun m ρ _ =>
  (θ_run Cert.Reference.defs _ _).mono
    (fun r h => ⟨fun c => (h c).2, sem_eq_zero_of_no_sems (by decide) r.2⟩) (Cert.Reference.PermValue.run m ρ)

/-- The idealized reference terminates with its argument unchanged and every semaphore at zero: it has none. -/
theorem referenceIdeal_quiescent : Cert.quiescent_ReferenceIdeal := fun m ρ _ =>
  (θ_run Cert.ReferenceIdeal.defs _ _).mono
    (fun r h => ⟨fun c => (h c).2, sem_eq_zero_of_no_sems (by decide) r.2⟩) (Cert.ReferenceIdeal.PermValue.run m ρ)

/-- Over the extended reals the idealized kernel and the idealized reference end with equal results: each leaves the
    images with their channels permuted by pairs. -/
theorem algebraic : Cert.algebraic_KernelIdeal_ReferenceIdeal := fun m g m' g' _ hm =>
  ⟨fun c => Perm.permuted (m ((c.tc : Thread Cert.KernelIdeal.nD Cert.KernelIdeal.τ).loc Cert.KernelIdeal.main_arg0)),
    Cert.KernelIdeal.PermValue.run m g,
    (θ_run Cert.ReferenceIdeal.defs _ _).mono
      (fun _ h c => ⟨(h c).1.trans (congrArg Perm.permuted (hm c)), (h c).2⟩) (Cert.ReferenceIdeal.PermValue.run m' g')⟩

/-- At the machine's floats the kernel and the reference end with the same bits: each leaves the images with their
    channels permuted by pairs. -/
theorem bitexact : Cert.bitexact_Kernel_Reference := fun m g m' g' _ hm =>
  ⟨fun c => Perm.permuted (m ((c.tc : Thread Cert.Kernel.nD Cert.Kernel.τ).loc Cert.Kernel.main_arg0)),
    Cert.Kernel.PermValue.run m g,
    (θ_run Cert.Reference.defs _ _).mono
      (fun _ h c => ⟨(h c).1.trans (congrArg Perm.permuted (hm c)), (h c).2⟩) (Cert.Reference.PermValue.run m' g')⟩

/-- Every claim of the certificate. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    reference_quiescent, referenceIdeal_quiescent, trivial, algebraic, bitexact⟩

end Cert.Proof

end
